-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S16x512x4096 : Shape := ⟨3, ![16, 512, 4096]⟩
abbrev S1x512x4096 : Shape := ⟨3, ![1, 512, 4096]⟩
abbrev S512x4096 : Shape := ⟨2, ![512, 4096]⟩
abbrev S512x1 : Shape := ⟨2, ![512, 1]⟩
abbrev S128x4096 : Shape := ⟨2, ![128, 4096]⟩
abbrev S128x1 : Shape := ⟨2, ![128, 1]⟩
abbrev S128 : Shape := ⟨1, ![128]⟩
abbrev S1x512x1 : Shape := ⟨3, ![1, 512, 1]⟩

abbrev nBuf : Space → Nat
  | .hbm => 5
  | .vmem => 9
  | .smem => 0
  | _ => 0

abbrev bufTy : (tb : Table) → Fin (tcTables nBuf tb) → BufTy
  | .hbm, ⟨0, _⟩ => ⟨S16x512x4096, .f32⟩
  | .hbm, ⟨1, _⟩ => ⟨S1x512x4096, .f32⟩
  | .hbm, ⟨2, _⟩ => ⟨S512x4096, .f32⟩
  | .hbm, ⟨3, _⟩ => ⟨S512x1, .f32⟩
  | .hbm, ⟨4, _⟩ => ⟨S16x512x4096, .f32⟩
  | .local _ .vmem, ⟨0, _⟩ => ⟨S128x4096, .f32⟩
  | .local _ .vmem, ⟨1, _⟩ => ⟨S128x4096, .f32⟩
  | .local _ .vmem, ⟨2, _⟩ => ⟨S128x1, .f32⟩
  | .local _ .vmem, ⟨3, _⟩ => ⟨S128x1, .f32⟩
  | .local _ .vmem, ⟨4, _⟩ => ⟨S1x512x4096, .f32⟩
  | .local _ .vmem, ⟨5, _⟩ => ⟨S1x512x4096, .f32⟩
  | .local _ .vmem, ⟨6, _⟩ => ⟨S512x1, .f32⟩
  | .local _ .vmem, ⟨7, _⟩ => ⟨S1x512x4096, .f32⟩
  | .local _ .vmem, ⟨8, _⟩ => ⟨S1x512x4096, .f32⟩
  | _, _ => ⟨S16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [BitOps F]

abbrev grid0 : Pipeline.Grid := ⟨1, ![4], ![false]⟩

@[reducible] def k0_t1_loop : Scf.Loop 32 :=
  let c0_i32_1 : BitVec 32 := 0#32
  let c32_i32 : BitVec 32 := 32#32
  let v9 : BitVec 32 := Scalar.addi c0_i32_1 c32_i32
  let c1_i32 : BitVec 32 := 1#32
  ⟨c0_i32_1, v9, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1x512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference.lean ====
abbrev S16x512x4096 : Shape := ⟨3, ![16, 512, 4096]⟩
abbrev S1x512x4096 : Shape := ⟨3, ![1, 512, 4096]⟩
abbrev S512x4096 : Shape := ⟨2, ![512, 4096]⟩
abbrev S512x3277 : Shape := ⟨2, ![512, 3277]⟩
abbrev S512x1 : Shape := ⟨2, ![512, 1]⟩
abbrev S_ : Shape := ⟨0, ![]⟩
abbrev S1x512x1 : Shape := ⟨3, ![1, 512, 1]⟩

abbrev nBuf : Space → Nat
  | .hbm => 15
  | .vmem => 0
  | .smem => 0
  | _ => 0

abbrev bufTy : (tb : Table) → Fin (tcTables nBuf tb) → BufTy
  | .hbm, ⟨0, _⟩ => ⟨S16x512x4096, .f32⟩
  | .hbm, ⟨1, _⟩ => ⟨S1x512x4096, .f32⟩
  | .hbm, ⟨2, _⟩ => ⟨S512x4096, .f32⟩
  | .hbm, ⟨3, _⟩ => ⟨S512x3277, .f32⟩
  | .hbm, ⟨4, _⟩ => ⟨S512x3277, .i32⟩
  | .hbm, ⟨5, _⟩ => ⟨S512x1, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x1, .f32⟩
  | .hbm, ⟨12, _⟩ => ⟨S1x512x1, .f32⟩
  | .hbm, ⟨13, _⟩ => ⟨S16x512x4096, .f32⟩
  | .hbm, ⟨14, _⟩ => ⟨S16x512x4096, .f32⟩
  | _, _ => ⟨S16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_values : Ref sig .tc := ⟨.hbm, 3, rfl⟩
abbrev main_indices : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Launch.lean ====
/- The kernel's run with its result kept: the launch of the two regions as in the frame certificate, read at its end
   also at the result array, which holds what the last boundary's contents say. -/
module

public import proofs.«01_k».proof.Proof.Gen.Kernel.Frame

@[expose] public section

noncomputable section

namespace Cert.Kernel.Result

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel's @main terminates with the result
    array at the contents that the last region's boundary names and the argument as launched. -/
theorem run_W3 : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨h c _ (mem_uc main_v3 (by decide)),
      (h c _ (mem_uc main_arg0 (by decide))).trans (W3_main_arg0 m ρ c)⟩)

end Cert.Kernel.Result

end
-- ==== Proof.Select.lean ====
/- Order statistics of a finite family of 32-bit words read as signed integers, without any program in sight: what it
   means for a word to be the entry of rank `r`, that there is at most one, and that the radix search the kernel runs
   (one bit per step, keep the bit while few enough keys lie below) ends at it. -/
module

public import Idealize.ShloMosaic.PureOps
public import Idealize.ShloMosaic.Lib.IndicatorCount
public import Mathlib.Order.Interval.Finset.Fin
public import Mathlib.Tactic.Ring
public import Mathlib.Tactic.NormNum

@[expose] public section

namespace Cert.Select

open Idealize.ShloMosaic

variable {ι : Type} [Fintype ι]

/-- How many of the keys, read as signed integers, are below the integer `z`. -/
def below (key : ι → BitVec 32) (z : ℤ) : ℕ := (Finset.univ.filter fun k => (key k).toInt < z).card

/-- `below` grows with its bound. -/
theorem below_mono (key : ι → BitVec 32) {a b : ℤ} (h : a ≤ b) : below key a ≤ below key b := by
  refine Finset.card_le_card fun k hk => ?_
  simp only [Finset.mem_filter, Finset.mem_univ, true_and] at hk ⊢
  omega

/-- No more keys lie below a bound than there are. -/
theorem below_le_card (key : ι → BitVec 32) (z : ℤ) : below key z ≤ Fintype.card ι := Finset.card_le_univ _

/-- Above the largest signed word every key counts. -/
theorem below_top (key : ι → BitVec 32) {z : ℤ} (h : 2 ^ 31 ≤ z) : below key z = Fintype.card ι := by
  unfold below
  rw [Finset.filter_true_of_mem, Finset.card_univ]
  intro k _
  have := BitVec.toInt_lt (x := key k)
  norm_num at this h ⊢
  omega

/-- Below the smallest signed word there is no key. -/
theorem below_bot (key : ι → BitVec 32) {z : ℤ} (h : z ≤ -2 ^ 31) : below key z = 0 := by
  unfold below
  rw [Finset.card_eq_zero, Finset.filter_eq_empty_iff]
  intro k _
  have := BitVec.le_toInt (x := key k)
  norm_num at this h ⊢
  omega

/-- The word `w` is the entry of rank `r` (counted from zero) of the keys in increasing order: at most `r` keys are
    below it and more than `r` are at most it. -/
def IsRank (key : ι → BitVec 32) (r : ℕ) (w : BitVec 32) : Prop :=
  below key w.toInt ≤ r ∧ r < below key (w.toInt + 1)

/-- At most one word has a given rank. -/
theorem IsRank.unique {key : ι → BitVec 32} {r : ℕ} {v w : BitVec 32} (hv : IsRank key r v) (hw : IsRank key r w) : v = w := by
  apply BitVec.eq_of_toInt_eq
  rcases lt_trichotomy v.toInt w.toInt with h | h | h
  · have := below_mono key (show v.toInt + 1 ≤ w.toInt by omega)
    have := hv.2; have := hw.1; omega
  · exact h
  · have := below_mono key (show w.toInt + 1 ≤ v.toInt by omega)
    have := hw.2; have := hv.1; omega

/-- A family sorted in decreasing order has at position `p` the entry of rank `n - 1 - p`. -/
theorem isRank_of_sorted {n : ℕ} (key : Fin n → BitVec 32) (σ : Fin n → Fin n) (hσ : Function.Injective σ)
    (hs : ∀ i j : Fin n, i < j → (key (σ j)).toInt ≤ (key (σ i)).toInt) (p : Fin n) :
    IsRank key (n - 1 - p.val) (key (σ p)) := by
  have hb : Function.Bijective σ := Finite.injective_iff_bijective.mp hσ
  constructor
  · have hsub : (Finset.univ.filter fun k => (key k).toInt < (key (σ p)).toInt) ⊆ (Finset.Ioi p).image σ := by
      intro k hk
      simp only [Finset.mem_filter, Finset.mem_univ, true_and] at hk
      obtain ⟨i, rfl⟩ := hb.2 k
      refine Finset.mem_image_of_mem _ (Finset.mem_Ioi.mpr ?_)
      by_contra hle
      rcases lt_or_eq_of_le (not_lt.mp hle) with h | h
      · have := hs i p h; omega
      · subst h; omega
    refine (Finset.card_le_card hsub).trans (Finset.card_image_le.trans ?_)
    rw [Fin.card_Ioi]
  · have hsub : (Finset.Ici p).image σ ⊆ (Finset.univ.filter fun k => (key k).toInt < (key (σ p)).toInt + 1) := by
      intro k hk
      obtain ⟨i, hi, rfl⟩ := Finset.mem_image.mp hk
      simp only [Finset.mem_filter, Finset.mem_univ, true_and]
      rcases lt_or_eq_of_le (Finset.mem_Ici.mp hi) with h | h
      · have := hs p i h; omega
      · subst h; omega
    have hc := Finset.card_le_card hsub
    rw [Finset.card_image_of_injective _ hσ, Fin.card_Ici] at hc
    have := p.isLt
    unfold below
    omega

/-- Adding the power of two `2 ^ n` to a word adds it to its signed reading while the sum stays a signed word. -/
theorem toInt_add_pow (s : BitVec 32) (n : ℕ) (hn : n < 32) (h : s.toInt + 2 ^ n < 2 ^ 31) :
    (s + 1#32 <<< n).toInt = s.toInt + 2 ^ n := by
  have hle := BitVec.le_toInt (x := s)
  have hx : (1#32 <<< n).toNat = 2 ^ n := by
    rw [BitVec.toNat_shiftLeft, Nat.shiftLeft_eq, show (1#32).toNat = 1 from rfl, Nat.one_mul]
    exact Nat.mod_eq_of_lt (Nat.pow_lt_pow_right (by norm_num) hn)
  rw [BitVec.toInt_add, BitVec.toInt_eq_toNat_bmod (1#32 <<< n), hx, Int.add_bmod_bmod]
  have hp : (0 : ℤ) < 2 ^ n := by positivity
  push_cast
  norm_num at hle h ⊢
  exact Int.bmod_eq_of_le (by norm_num; omega) (by norm_num; omega)

/-- One step of the radix search for rank `r`: at step `t` try to add bit `31 - t`, and keep it exactly when at most
    `r` keys lie below the trial word. -/
def step (key : ι → BitVec 32) (r t : ℕ) (s : BitVec 32) : BitVec 32 :=
  if below key (s + 1#32 <<< (31 - t)).toInt ≤ r then s + 1#32 <<< (31 - t) else s

/-- The radix search after `n` steps, from the smallest signed word. -/
def search (key : ι → BitVec 32) (r : ℕ) : ℕ → BitVec 32
  | 0 => 2147483648#32
  | n + 1 => step key r n (search key r n)

/-- The search's invariant: after `n` steps the entry of rank `r` lies in the window of length `2 ^ (32 - n)` that
    starts at the search's word, and the window lies within the signed words. -/
theorem search_window (key : ι → BitVec 32) (r : ℕ) (hr : r < Fintype.card ι) : ∀ n ≤ 32,
    (search key r n).toInt + 2 ^ (32 - n) ≤ 2 ^ 31 ∧ below key (search key r n).toInt ≤ r
      ∧ r < below key ((search key r n).toInt + 2 ^ (32 - n)) := by
  intro n
  induction n with
  | zero =>
    intro _
    have e : (search key r 0).toInt = -2 ^ 31 := by unfold search; decide
    rw [e]
    refine ⟨by norm_num, ?_, ?_⟩
    · rw [below_bot key le_rfl]; exact Nat.zero_le r
    · rw [below_top key (by norm_num)]; exact hr
  | succ n ih =>
    intro hn
    obtain ⟨h1, h2, h3⟩ := ih (by omega)
    have e : 32 - n = (31 - n) + 1 := by omega
    have e' : 32 - (n + 1) = 31 - n := by omega
    have hp : (0 : ℤ) < 2 ^ (31 - n) := by positivity
    rw [e, pow_succ] at h1 h3
    have hadd := toInt_add_pow (search key r n) (31 - n) (by omega) (by omega)
    rw [e']
    show (step key r n (search key r n)).toInt + _ ≤ _ ∧ below key (step key r n (search key r n)).toInt ≤ r
      ∧ r < below key ((step key r n (search key r n)).toInt + _)
    unfold step
    rw [hadd]
    split
    · rename_i hc
      rw [hadd]
      refine ⟨by omega, hc, ?_⟩
      rwa [show (search key r n).toInt + 2 ^ (31 - n) + 2 ^ (31 - n) = (search key r n).toInt + 2 ^ (31 - n) * 2 by ring]
    · rename_i hc
      exact ⟨by omega, h2, not_le.mp hc⟩

/-- After its 32 steps the search has found the entry of rank `r`. -/
theorem isRank_search (key : ι → BitVec 32) (r : ℕ) (hr : r < Fintype.card ι) : IsRank key r (search key r 32) := by
  obtain ⟨-, h2, h3⟩ := search_window key r hr 32 le_rfl
  exact ⟨h2, by simpa using h3⟩

/-- A signed minimum of words over a finite set, from a start, is at most the start and every word of the set, and is
    one of them. -/
theorem fold_minsi_spec {κ : Type} [DecidableEq κ] (g : κ → BitVec 32) (S : Finset κ) (init : BitVec 32) :
    (S.fold IntOp.minsi init g).toInt ≤ init.toInt ∧ (∀ i ∈ S, (S.fold IntOp.minsi init g).toInt ≤ (g i).toInt)
      ∧ (S.fold IntOp.minsi init g = init ∨ ∃ i ∈ S, S.fold IntOp.minsi init g = g i) := by
  induction S using Finset.induction_on with
  | empty => exact ⟨le_rfl, fun i hi => absurd hi (Finset.notMem_empty i), Or.inl rfl⟩
  | insert a S ha ih =>
    obtain ⟨h1, h2, h3⟩ := ih
    rw [Finset.fold_insert ha]
    unfold IntOp.minsi at h1 h2 h3 ⊢
    split
    · rename_i hlt
      rw [BitVec.slt_iff_toInt_lt] at hlt
      refine ⟨by omega, fun i hi => ?_, Or.inr ⟨a, Finset.mem_insert_self a S, rfl⟩⟩
      rcases Finset.mem_insert.mp hi with rfl | hi
      · exact le_rfl
      · have := h2 i hi; omega
    · rename_i hlt
      rw [BitVec.slt_iff_toInt_lt] at hlt
      refine ⟨h1, fun i hi => ?_, ?_⟩
      · rcases Finset.mem_insert.mp hi with rfl | hi
        · omega
        · exact h2 i hi
      · rcases h3 with h3 | ⟨i, hi, h3⟩
        · exact Or.inl h3
        · exact Or.inr ⟨i, Finset.mem_insert_of_mem hi, h3⟩

/-- The smallest key above `s`, as the kernel computes it: every key that is not above `s` replaced by the largest
    signed word, then the signed minimum from that word. -/
def next (key : ι → BitVec 32) (s : BitVec 32) : BitVec 32 :=
  Finset.univ.fold IntOp.minsi 2147483647#32 fun k => if s.toInt < (key k).toInt then key k else 2147483647#32

/-- Where some key is above `s`, `next` is a key above `s` and no key above `s` is below it. -/
theorem next_spec (key : ι → BitVec 32) (s : BitVec 32) (h : ∃ k, s.toInt < (key k).toInt) :
    (∃ k, s.toInt < (key k).toInt ∧ next key s = key k) ∧ ∀ k, s.toInt < (key k).toInt → (next key s).toInt ≤ (key k).toInt := by
  classical
  obtain ⟨-, h2, h3⟩ := fold_minsi_spec (fun k => if s.toInt < (key k).toInt then key k else 2147483647#32) Finset.univ 2147483647#32
  have hle : ∀ k, s.toInt < (key k).toInt → (next key s).toInt ≤ (key k).toInt := by
    intro k hk
    have := h2 k (Finset.mem_univ k)
    rw [if_pos hk] at this
    exact this
  refine ⟨?_, hle⟩
  obtain ⟨k₀, hk₀⟩ := h
  have htop : next key s = 2147483647#32 → ∃ k, s.toInt < (key k).toInt ∧ next key s = key k := by
    intro e
    refine ⟨k₀, hk₀, BitVec.eq_of_toInt_eq ?_⟩
    have a := hle k₀ hk₀
    have b := BitVec.toInt_lt (x := key k₀)
    rw [e] at a ⊢
    have c : (2147483647#32 : BitVec 32).toInt = 2147483647 := by decide
    norm_num at b
    rw [c] at a ⊢
    omega
  rcases h3 with h3 | ⟨k, -, h3⟩
  · exact htop h3
  · by_cases hk : s.toInt < (key k).toInt
    · rw [if_pos hk] at h3; exact ⟨k, hk, h3⟩
    · rw [if_neg hk] at h3; exact htop h3

/-- From the entry `s` of rank `r` to the entry of rank `r + 1`: `s` itself when at least `r + 2` keys are at most
    `s`, and otherwise the smallest key above `s`. -/
theorem isRank_succ (key : ι → BitVec 32) (r : ℕ) (s : BitVec 32) (hs : IsRank key r s) (hr : r + 1 < Fintype.card ι) :
    IsRank key (r + 1) (if r + 2 ≤ below key (s.toInt + 1) then s else next key s) := by
  split
  · rename_i h
    exact ⟨hs.1.trans (Nat.le_succ r), h⟩
  · rename_i h
    have hb : below key (s.toInt + 1) = r + 1 := by have := hs.2; omega
    have hex : ∃ k, s.toInt < (key k).toInt := by
      by_contra hno
      have : below key (s.toInt + 1) = Fintype.card ι := by
        unfold below
        rw [Finset.filter_true_of_mem, Finset.card_univ]
        intro k _
        have := not_lt.mp fun h => hno ⟨k, h⟩
        omega
      omega
    obtain ⟨⟨k, hk, e⟩, hmin⟩ := next_spec key s hex
    constructor
    · rw [← hb]
      refine Finset.card_le_card fun i hi => ?_
      simp only [Finset.mem_filter, Finset.mem_univ, true_and] at hi ⊢
      by_contra hi'
      have := hmin i (by omega)
      omega
    · rw [← hb]
      refine Finset.card_lt_card (Finset.ssubset_iff_subset_ne.mpr ⟨fun i hi => ?_, fun heq => ?_⟩)
      · simp only [Finset.mem_filter, Finset.mem_univ, true_and] at hi ⊢
        rw [e]; omega
      · have : k ∈ Finset.univ.filter fun i => (key i).toInt < (next key s).toInt + 1 := by
          simp only [Finset.mem_filter, Finset.mem_univ, true_and]
          rw [e]; omega
        rw [← heq] at this
        simp only [Finset.mem_filter, Finset.mem_univ, true_and] at this
        omega

end Cert.Select

end
-- ==== Proof.Row.lean ====
/- One row of the quantile kernel's block at the words: its keys are the sort keys of the row's floats, its counted loop is
   the radix search of `Select`, and what it stores is the interpolation between the row's entries of rank 819 and 820. -/
module

public import proofs.«01_k».proof.Proof.Gen.Kernel.Skeleton
public import proofs.«01_k».proof.Proof.Select
public import Idealize.ShloMosaic.Lib.SortKey
public import Idealize.ShloMosaic.Lib.WordCmp
public import Idealize.ShloMosaic.Lib.Pointwise
public import Idealize.ShloMosaic.Lib.IndicatorCount
public import Idealize.ShloMosaic.Lib.Exec.Context

@[expose] public section

set_option maxRecDepth 16384

noncomputable section

namespace Cert.Kernel.Row

open Cert.Kernel Cert.Kernel.Gen Cert.Select
open Idealize.ShloMosaic

/-- The sort keys of row `r` of a block. -/
def keys (v0 : Vec Bits S128x4096 .f32) (r : Fin 128) (k : Fin 4096) : BitVec 32 := sortableKey (v0 (ix2 r k))

/-- The kernel's spelling of the key — a negative word with its other bits flipped, any other word as it is — is the
    sort key. -/
theorem select_eq_sortableKey (w : BitVec 32) :
    Scalar.select (IntOp.cmpi .slt w 0#32) (IntOp.xori w 2147483647#32) w = sortableKey w := by
  have e : IntOp.cmpi .slt w 0#32 = BitVec.ofBool w.msb := by
    unfold IntOp.cmpi
    rw [BitVec.slt_zero_eq_msb]
  unfold Scalar.select
  rw [e]
  cases h : w.msb
  · rw [sortableKey_of_msb_false w h]; rfl
  · rw [sortableKey_of_msb_true w h]; rfl

/-- The kernel's key of a block's entry is the entry's sort key. -/
theorem pay1_apply (v0 : Vec Bits S128x4096 .f32) (r : Fin 128) (k : Fin 4096) :
    k0_pay1 (F := Bits) v0 (ix2 r k) = keys v0 r k := by
  pointwise [k0_pay1]
  exact select_eq_sortableKey _

/-- A select between two words on a condition that holds exactly when `p` does. -/
theorem select_eq_ite {α : Type} {c : BitVec 1} {p : Prop} [Decidable p] (h : c = 1#1 ↔ p) (a b : α) :
    Scalar.select c a b = if p then a else b := by
  unfold Scalar.select
  exact if_congr h rfl rfl

/-- The signed comparisons of words as statements about integers. -/
theorem slt_iff (a b : BitVec 32) : IntOp.cmpi .slt a b = 1#1 ↔ a.toInt < b.toInt := by
  unfold IntOp.cmpi; rw [BitVec.slt]; exact WordCmp.ofBool_decide_eq_one_iff _
/-- The signed test of at-most is the order of the words as integers. -/
theorem sle_iff (a b : BitVec 32) : IntOp.cmpi .sle a b = 1#1 ↔ a.toInt ≤ b.toInt := by
  unfold IntOp.cmpi; rw [BitVec.sle]; exact WordCmp.ofBool_decide_eq_one_iff _

/-- A small number as a word reads back as itself. -/
theorem toInt_ofNat_small {n : ℕ} (h : n ≤ 4096) : (BitVec.ofNat 32 n).toInt = n := by
  rw [BitVec.toInt_eq_toNat_of_lt] <;> rw [BitVec.toNat_ofNat, Nat.mod_eq_of_lt (by omega)]
  omega

/-- The sum of a row's "below `c`" flags is how many of its keys are below `c`. -/
theorem fold_slt (key : Fin 4096 → BitVec 32) (c : BitVec 32) :
    Finset.fold IntOp.addi (0#32) (fun x => BitVec.setWidth 32 (IntOp.cmpi .slt (key x) c)) Finset.univ
      = BitVec.ofNat 32 (below key c.toInt) := by
  rw [IndicatorCount.fold_addi_setWidth_eq_card (fun x => IntOp.cmpi .slt (key x) c)]
  unfold below
  simp only [slt_iff]

/-- The sum of a row's "at most `c`" flags is how many of its keys are at most `c`. -/
theorem fold_sle (key : Fin 4096 → BitVec 32) (c : BitVec 32) :
    Finset.fold IntOp.addi (0#32) (fun x => BitVec.setWidth 32 (IntOp.cmpi .sle (key x) c)) Finset.univ
      = BitVec.ofNat 32 (below key (c.toInt + 1)) := by
  rw [IndicatorCount.fold_addi_setWidth_eq_card (fun x => IntOp.cmpi .sle (key x) c)]
  unfold below
  simp only [sle_iff, Int.lt_add_one_iff]

/-- No more than 4096 of a row's keys lie below a bound. -/
theorem below_le (key : Fin 4096 → BitVec 32) (z : ℤ) : below key z ≤ 4096 := by
  simpa using below_le_card key z

/-- The trial bit of step `t` is bit `31 - t`. -/
theorem bit_eq (t : Fin k0_t1_loop.trips) :
    Scalar.shli (1#32) (Scalar.subi (31#32) (Scf.iv 0#32 1#32 t.val)) = 1#32 <<< (31 - t.val) :=
  (by decide +kernel : ∀ t : Fin 32, Scalar.shli (1#32) (Scalar.subi (31#32) (Scf.iv 0#32 1#32 t.val)) = 1#32 <<< (31 - t.val)) t

/-- One trip of the loop is, at a row, one step of the radix search for rank 819 among the row's keys. -/
theorem pay3_apply (v0 : Vec Bits S128x4096 .f32) (t : Fin k0_t1_loop.trips) (s : IVec S128x1 32) (r : Fin 128) :
    k0_pay3 (F := Bits) v0 t s (ix2 r 0) = step (keys v0 r) 819 t.val (s (ix2 r 0)) := by
  pointwise [k0_pay3]
  simp only [pay1_apply]
  rw [bit_eq, fold_slt (keys v0 r)]
  unfold step
  refine select_eq_ite ?_ _ _
  rw [sle_iff, toInt_ofNat_small (below_le _ _), show (819#32 : BitVec 32).toInt = 819 by decide]
  exact Nat.cast_le (α := ℤ)

/-- A fold over the first `n` numbers keeps a property that is indexed by how many of them have been met. -/
theorem foldl_finRange_of_step {σ : Type} : ∀ (n : ℕ) (g : Fin n → σ → σ) (P : ℕ → σ → Prop) (init : σ), P 0 init →
    (∀ k s, P k.val s → P (k.val + 1) (g k s)) → P n ((List.finRange n).foldl (fun acc k => g k acc) init)
  | 0, _, _, _, h0, _ => h0
  | n + 1, g, P, init, h0, hs => by
    rw [List.finRange_succ, List.foldl_cons, List.foldl_map]
    exact foldl_finRange_of_step n (fun k => g k.succ) (fun k => P (k + 1)) (g 0 init) (hs 0 init h0)
      fun k s h => hs k.succ s h

/-- What the loop leaves at a row is the radix search's word. -/
theorem fold_apply (v0 : Vec Bits S128x4096 .f32) (r : Fin 128) :
    Scf.fold (fun t acc => k0_pay3 (F := Bits) v0 t acc) k0_pay2 (ix2 r 0) = search (keys v0 r) 819 32 := by
  rw [Scf.fold_eq]
  refine foldl_finRange_of_step k0_t1_loop.trips (fun t acc => k0_pay3 (F := Bits) v0 t acc)
    (fun n s => s (ix2 r 0) = search (keys v0 r) 819 n) _ rfl fun t s h => ?_
  show k0_pay3 (F := Bits) v0 t s (ix2 r 0) = step (keys v0 r) 819 t.val (search (keys v0 r) 819 t.val)
  rw [pay3_apply, h]

/-- The interpolation both programs compute between two neighbouring entries: `lo + 0 · (hi - lo)`. -/
def lerp (lo hi : Bits .f32) : Bits .f32 :=
  FloatOps.addf lo (FloatOps.mulf (FloatOps.ofBits .f32 0#32) (FloatOps.subf hi lo))

/-- What the kernel stores at a row, from the loop's word `s`: the interpolation between the float whose key is `s` and
    the float whose key is `s` again or the next key up. -/
theorem pay4_apply (v0 : Vec Bits S128x4096 .f32) (s : IVec S128x1 32) (r : Fin 128) :
    k0_pay4 (F := Bits) v0 s (ix2 r 0) = lerp (sortableKey (s (ix2 r 0)))
      (sortableKey (if 821 ≤ below (keys v0 r) ((s (ix2 r 0)).toInt + 1) then s (ix2 r 0) else next (keys v0 r) (s (ix2 r 0)))) := by
  pointwise [k0_pay4]
  simp only [pay1_apply, select_eq_sortableKey]
  rw [fold_sle (keys v0 r)]
  have e : Finset.fold IntOp.minsi (2147483647#32) (fun x =>
      Scalar.select (IntOp.cmpi .sgt (keys v0 r x) (s (ix2 r 0))) (keys v0 r x) 2147483647#32) Finset.univ
      = next (keys v0 r) (s (ix2 r 0)) := by
    unfold next
    refine Finset.fold_congr fun x _ => select_eq_ite ?_ _ _
    exact slt_iff _ _
  rw [e, select_eq_ite (p := 821 ≤ below (keys v0 r) ((s (ix2 r 0)).toInt + 1))]
  · rfl
  · refine (sle_iff _ _).trans ?_
    rw [toInt_ofNat_small (below_le _ _), show (821#32 : BitVec 32).toInt = 821 by decide]
    exact Nat.cast_le (α := ℤ)

/-- The interpolation between a row's entries `lo` of rank 819 and `hi` of rank 820 is what the kernel stores there. -/
theorem stored_apply (v0 : Vec Bits S128x4096 .f32) (r : Fin 128) (lo hi : Bits .f32)
    (hlo : IsRank (keys v0 r) 819 (sortableKey lo)) (hhi : IsRank (keys v0 r) 820 (sortableKey hi)) :
    k0_pay4 (F := Bits) v0 (Scf.fold (fun t acc => k0_pay3 (F := Bits) v0 t acc) k0_pay2) (ix2 r 0) = lerp lo hi := by
  rw [pay4_apply, fold_apply]
  have h1 := isRank_search (keys v0 r) 819 (by simp)
  have h2 := isRank_succ (keys v0 r) 819 _ h1 (by simp)
  rw [IsRank.unique h2 hhi, IsRank.unique h1 hlo, sortableKey_sortableKey, sortableKey_sortableKey]

end Cert.Kernel.Row

end
-- ==== Proof.Value.lean ====
/- The kernel's result array after its run, over the words: the quantile column that the first region leaves, and the
   argument less that column, broadcast, that the second region leaves. -/
module

public import proofs.«01_k».proof.Proof.Launch
public import proofs.«01_k».proof.Proof.Row
public import Idealize.ShloMosaic.Lib.Pipeline.ValueKit

@[expose] public section

set_option maxRecDepth 16384

noncomputable section

namespace Cert.Kernel.Result

open Cert.Kernel Cert.Kernel.Gen
open Idealize.ShloMosaic Idealize.ShloMosaic.TcCoe Idealize.SL.Sem
open Idealize.ShloMosaic.Pipeline (Dat)

variable (m : (ℓ : Loc nD τ sig) → Buf (Elt Bits) ℓ) (ρ : Dev nD → PrngReg)

/-- Where the first region's blocks sit: point `t` reads and writes row block `t`. -/
theorem idx0 : ∀ t : Fin cfg0.N, win0_0.index t = ![t.val, 0] ∧ win0_1.index t = ![t.val, 0] :=
  (by decide +kernel : ∀ t : Fin grid0.N, _)
/-- Where the second region's blocks sit: point `t` reads and writes batch `t`, and reads the whole column. -/
theorem idx1 : ∀ t : Fin cfg1.N, win1_0.index t = ![t.val, 0, 0] ∧ win1_1.index t = ![0, 0] ∧ win1_2.index t = ![t.val, 0, 0] :=
  (by decide +kernel : ∀ t : Fin grid1.N, _)

/-- What the quantile body leaves from a block. -/
def quant (v0 : Vec Bits S128x4096 .f32) : FVec Bits S128x1 .f32 :=
  k0_pay4 (F := Bits) v0 (Scf.fold (fun t acc => k0_pay3 (F := Bits) v0 t acc) k0_pay2)

variable (V : (c : Dev nD) → (b : Ref sig .tc) → Buf (Elt Bits) ((c : Thread nD τ).loc b))

/-- What the first region's body leaves at a point is `quant` of the point's block. -/
theorem outs0_eq (c : Dev nD) (t : Fin cfg0.N) : outsAt0 V c t = quant (iblk0 V c 0 t) := by
  unfold outsAt0
  frame_out
  rfl

/-- A column `Q` interpolates, at every row of the matrix `X`, between the row's entries of rank 819 and 820. -/
def IsQuantile (X : FVec Bits S512x4096 .f32) (Q : FVec Bits S512x1 .f32) : Prop :=
  ∀ i : Fin 512, ∃ lo hi : Bits .f32, Select.IsRank (fun k : Fin 4096 => sortableKey (X (ix2 i k))) 819 (sortableKey lo)
    ∧ Select.IsRank (fun k : Fin 4096 => sortableKey (X (ix2 i k))) 820 (sortableKey hi) ∧ Q (ix2 i 0) = Row.lerp lo hi

/-- The first region leaves in its result array the one column that interpolates between the rows' two entries. -/
theorem final0 (c : Dev nD) (Q : FVec Bits S512x1 .f32) (hQ : IsQuantile (V c main_v1) Q) :
    (dat0 V c).arrAt 1 cfg0.N = Q := by
  refine (dat0 V c).arrAt_eq_of_covers 1 _ (by decide +kernel) fun t _ y => ?_
  blk_simp
  rw [after0_1, outs0_eq]
  have hy : y = ix2 (y 0) 0 := by
    funext a
    match a with
    | ⟨0, _⟩ => rfl
    | ⟨1, _⟩ => exact Subsingleton.elim (α := Fin 1) _ _
  rw [hy]
  have hN : t.val < 4 := N_0 ▸ t.isLt
  have hr : (y 0).val < 128 := (y 0).isLt
  have hkeys : Row.keys (iblk0 V c 0 t) (y 0)
      = fun k : Fin 4096 => sortableKey ((V c main_v1 : FVec Bits S512x4096 .f32) (ix2 ⟨t.val * 128 + (y 0).val, by omega⟩ k)) := by
    funext k
    unfold Row.keys
    refine congrArg sortableKey ?_
    blk_ext [iblk0, idx0 t]
  obtain ⟨lo, hi, hlo, hhi, e⟩ := hQ ⟨t.val * 128 + (y 0).val, by omega⟩
  rw [← hkeys] at hlo hhi
  refine (Row.stored_apply (iblk0 V c 0 t) (y 0) lo hi hlo hhi).trans (e.symm.trans ?_)
  blk_ext [idx0 t]

/-- The argument less a column broadcast along batches and entries. -/
def minus (X : FVec Bits S16x512x4096 .f32) (q : FVec Bits S512x1 .f32) : FVec Bits S16x512x4096 .f32 :=
  subf X fun i => q (ix2 (i 1) 0)

/-- The second region leaves in its result array its argument less its column. -/
theorem final1 (c : Dev nD) : (dat1 V c).arrAt 2 cfg1.N = minus (V c main_arg0) (V c main_v2) := by
  refine (dat1 V c).arrAt_eq_of_covers 2 _ (by decide +kernel) fun t _ y => ?_
  blk_simp
  rw [after1_2]
  frame_out
  pointwise [k1_pay1, minus]
  blk_point [iblk1, idx1 t]

/-- The host's matrix: the first batch of the argument. -/
abbrev mat (x : FVec Bits S16x512x4096 .f32) : FVec Bits S512x4096 .f32 :=
  shapeCast S512x4096 (extractStridedSlice S1x512x4096 ![0, 0, 0] x slices_S16x512x4096_S1x512x4096_0_0_0) shapeCasts_S1x512x4096_S512x4096

/-- The first region's operand is the first batch of the argument as launched. -/
theorem V1_mat (c : Dev nD) : V1 m ρ c main_v1 = mat (m ((c : Thread nD τ).loc main_arg0)) := by
  show StableHlo.after hostOps0 (W0 m ρ c) main_v1 = _
  after_results
  rfl

/-- The result array at the end of the kernel's run: the argument less the column that interpolates between the two
    entries of each row of its first batch. -/
theorem W3_result (c : Dev nD) (Q : FVec Bits S512x1 .f32) (hQ : IsQuantile (mat (m ((c : Thread nD τ).loc main_arg0))) Q) :
    W3 m ρ c (Proc.devRef .tc main_v3) = minus (m ((c : Thread nD τ).loc main_arg0)) Q := by
  refine (W3_arr m ρ c 2).trans ((final1 (V2 m ρ) c).trans ?_)
  have e2 : V2 m ρ c main_v2 = Q := (W2_arr m ρ c 1).trans (final0 (V1 m ρ) c Q (by rw [V1_mat]; exact hQ))
  have e0 : V2 m ρ c main_arg0 = m ((c : Thread nD τ).loc main_arg0) := W2_args m ρ c main_arg0 (by decide)
  rw [e2, e0]

end Cert.Kernel.Result

end
-- ==== Proof.RefValue.lean ====
/- The reference's result over the words: its decreasing top list has the row's entry of rank 819 in its last column and
   that of rank 820 in the column before, so its quantile column interpolates between those two. -/
module

public import proofs.«01_k».proof.Proof.Gen.Reference.Run
public import proofs.«01_k».proof.Proof.Select
public import Idealize.ShloMosaic.Lib.SortKey
public import Idealize.ShloMosaic.Lib.SortFacts
public import Idealize.ShloMosaic.Lib.WordCmp
public import Idealize.ShloMosaic.Lib.Pointwise

@[expose] public section

set_option maxRecDepth 16384

noncomputable section

namespace Cert.Reference.Column

open Cert.Reference Cert.Reference.Gen Cert.Select
open Idealize.ShloMosaic

/-- The host's total-order comparison is the order of the sort keys. -/
theorem gt_iff (a b : Bits .f32) :
    FloatOps.cmpfTotal (F := Bits) .gt a b = 1#1 ↔ (sortableKey b).toInt < (sortableKey a).toInt := by
  rw [cmpfTotal_f32_eq_cmpi_sortableKey]
  show IntOp.cmpi .sgt _ _ = 1#1 ↔ _
  unfold IntOp.cmpi
  rw [BitVec.slt]
  exact WordCmp.ofBool_decide_eq_one_iff _

/-- Where the decreasing order of a row finds its entries. -/
def order (X : FVec Bits S512x4096 .f32) (i : Fin 512) : Fin 4096 → Fin 4096 :=
  sortedFrom fun k k' : Fin 4096 => FloatOps.cmpfTotal (F := Bits) .gt (X (ix2 i k)) (X (ix2 i k')) == 1#1

/-- An entry of the decreasing top list is the row's entry where the order finds it. -/
theorem topK_apply (X : FVec Bits S512x4096 .f32) (i : Fin 512) (p : Fin 3277) :
    (Host.topK S512x3277 1 (FloatOps.cmpfTotal (F := Bits) .gt) X sliceFits_S512x4096_S512x3277).1 (ix2 i p)
      = X (ix2 i (order X i ⟨p.val, by omega⟩)) := by
  pointwise [Host.topK, order]
  have e (k : Fin 4096) : (ix2 i (⟨p.val, by omega⟩ : Fin 4096) : S512x4096.Idx).along (1 : Fin 2) k = ix2 i k := by
    funext a
    match a with
    | ⟨0, _⟩ => rfl
    | ⟨1, _⟩ => rfl
  rw [Host.sort2, dif_pos (by decide)]
  refine (congrArg X (e _)).trans ?_
  refine congrArg (fun f : Fin 4096 → Fin 4096 → Bool => X (ix2 i (sortedFrom f ⟨p.val, by omega⟩))) ?_
  funext k k'
  exact congrArg₂ (fun a b => FloatOps.cmpfTotal (F := Bits) .gt (X a) (X b) == 1#1) (e k) (e k')

/-- The keys of a row in that order decrease. -/
theorem order_sorted (X : FVec Bits S512x4096 .f32) (i : Fin 512) (a b : Fin 4096) (h : a < b) :
    (sortableKey (X (ix2 i (order X i b)))).toInt ≤ (sortableKey (X (ix2 i (order X i a)))).toInt := by
  have := sortedFrom_noInversion (fun k k' : Fin 4096 => FloatOps.cmpfTotal (F := Bits) .gt (X (ix2 i k)) (X (ix2 i k')) == 1#1)
    (fun k k' : Fin 4096 => FloatOps.cmpfTotal (F := Bits) .gt (X (ix2 i k)) (X (ix2 i k')) == 1#1)
    (fun k k' h => by
      rw [beq_iff_eq, gt_iff] at h
      rw [beq_eq_false_iff_ne, Ne, gt_iff]; omega)
    (fun _ _ h => h)
    (fun k l q h h' => by
      rw [beq_eq_false_iff_ne, Ne, gt_iff] at h h' ⊢; omega) a b h
  rw [beq_eq_false_iff_ne, Ne, gt_iff] at this
  exact not_lt.mp this

/-- Column `p` of the top list is the row's entry of rank `4095 - p`. -/
theorem isRank_topK (X : FVec Bits S512x4096 .f32) (i : Fin 512) (p : Fin 3277) :
    IsRank (fun k : Fin 4096 => sortableKey (X (ix2 i k))) (4096 - 1 - p.val)
      (sortableKey ((Host.topK S512x3277 1 (FloatOps.cmpfTotal (F := Bits) .gt) X sliceFits_S512x4096_S512x3277).1 (ix2 i p))) := by
  rw [topK_apply]
  exact isRank_of_sorted (fun k : Fin 4096 => sortableKey (X (ix2 i k))) (order X i) (sortedFrom_injective _)
    (order_sorted X i) ⟨p.val, by omega⟩

end Cert.Reference.Column

end
-- ==== Proof.Bridge.lean ====
/- The two results are one function of the argument: the reference's quantile column interpolates between the row's
   entries of rank 819 and 820, so the kernel's result at that column is the reference's. -/
module

public import proofs.«01_k».proof.Proof.Value
public import proofs.«01_k».proof.Proof.RefValue

@[expose] public section

set_option maxRecDepth 16384

noncomputable section

namespace Cert.Bridge

open Cert.Reference Cert.Reference.Gen
open Idealize.ShloMosaic

/-- The reference's decreasing top list of a matrix's rows. -/
abbrev top (X : FVec Bits S512x4096 .f32) : FVec Bits S512x3277 .f32 :=
  (Host.topK S512x3277 1 (FloatOps.cmpfTotal (F := Bits) .gt) X sliceFits_S512x4096_S512x3277).1

/-- The reference's quantile column of a matrix's rows. -/
def column (X : FVec Bits S512x4096 .f32) : FVec Bits S512x1 .f32 :=
  addf (extractStridedSlice S512x1 ![0, 3276] (top X) slices_S512x3277_S512x1_0_3276)
    (mulf (broadcastInDim S512x1 ![] bcast_S_S512x1 (constant S_ .f32 0x00000000#32))
      (subf (extractStridedSlice S512x1 ![0, 3275] (top X) slices_S512x3277_S512x1_0_3275)
        (extractStridedSlice S512x1 ![0, 3276] (top X) slices_S512x3277_S512x1_0_3276)))

/-- An entry of the quantile column, from the top list's last two columns. -/
theorem column_apply (X : FVec Bits S512x4096 .f32) (i : Fin 512) :
    column X (ix2 i 0) = Kernel.Row.lerp (top X (ix2 i ⟨3276, by decide⟩)) (top X (ix2 i ⟨3275, by decide⟩)) := by
  unfold column
  generalize top X = T
  pointwise [Kernel.Row.lerp]

/-- The quantile column interpolates between the rows' entries of rank 819 and 820. -/
theorem column_isQuantile (X : FVec Bits S512x4096 .f32) : Kernel.Result.IsQuantile X (column X) := fun i =>
  ⟨_, _, Column.isRank_topK X i ⟨3276, by decide⟩, Column.isRank_topK X i ⟨3275, by decide⟩, column_apply X i⟩

/-- The reference's last step is the argument less the quantile column, row by row. -/
theorem minus_column (x : FVec Bits S16x512x4096 .f32) (q : FVec Bits S512x1 .f32) :
    Kernel.Result.minus x q = subf x (broadcastInDim S16x512x4096 ![0, 1, 2] bcast_S1x512x1_S16x512x4096_0_1_2
      (broadcastInDim S1x512x1 ![1, 2] bcast_S512x1_S1x512x1_1_2 q)) := by
  funext i
  pointwise [Kernel.Result.minus]

end Cert.Bridge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Run
public import proofs.«01_k».proof.Proof.Launch
public import proofs.«01_k».proof.Proof.Bridge
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the kernel ends at rest with its argument unchanged. -/
theorem frameKernel : Cert.quiescent_Kernel := fun m ρ _ => Cert.Kernel.Gen.frame m ρ

/-- Every run of the reference ends at rest with its argument unchanged. -/
theorem frameReference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The kernel and the reference leave the same words in their results. -/
theorem same : Cert.bitexact_Kernel_Reference := by
  intro m ρ m' ρ' _ hagree
  refine ⟨fun c => _, Cert.Kernel.Result.run_W3 m ρ, ?_⟩
  refine (θ_run _ _ _).mono (fun _ h c => ⟨(h c).1.trans ?_, (h c).2⟩) (Cert.Reference.Value.run (F := Bits) m' ρ')
  rw [hagree c]
  exact ((Cert.Kernel.Result.W3_result m ρ c _ (Cert.Bridge.column_isQuantile _)).trans (Cert.Bridge.minus_column _ _)).symm

/-- The claims. -/
theorem claim : Cert.Claim := ⟨Cert.Kernel.Gen.facts, Cert.Reference.Gen.facts, frameKernel, frameReference, same⟩

end Cert.Proof

end
